-- ==== Defs.lean ====
def Pre_Kernel [hPre_target_in_range : Cert.Pre_target_in_range.Facts] (m : (ℓ : Loc Cert.Kernel.nD Cert.Kernel.τ Cert.Kernel.sig) → Buf (Elt Bits) ℓ) : Prop :=
  ∀ c : Dev Cert.Kernel.nD,
    (Cert.Pre_target_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_target_in_range : Cert.Pre_target_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_target_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_in_range [hPre_target_in_range : Cert.Pre_target_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_target_in_range : Cert.Pre_target_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_target_in_range : Cert.Pre_target_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_target_in_range [hReferenceIdeal : Cert.ReferenceIdeal.Facts] [hPre_target_in_range : Cert.Pre_target_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_target_in_range : Cert.Pre_target_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_target_in_range : Cert.Pre_target_in_range.Facts),
    quiescent_Kernel (hKernel := hKernel) (hPre_target_in_range := hPre_target_in_range)
    ∧ quiescent_KernelIdeal (hKernelIdeal := hKernelIdeal) (hPre_target_in_range := hPre_target_in_range)
    ∧ quiescent_ReferenceIdeal (hReferenceIdeal := hReferenceIdeal)
    ∧ quiescent_ReferenceIdeal_pre_target_in_range (hReferenceIdeal := hReferenceIdeal) (hPre_target_in_range := hPre_target_in_range)
    ∧ preserves_Kernel_KernelIdeal
    ∧ algebraic_KernelIdeal_ReferenceIdeal (hKernelIdeal := hKernelIdeal) (hReferenceIdeal := hReferenceIdeal) (hPre_target_in_range := hPre_target_in_range)
-- ==== Pre_target_in_range.lean ====
abbrev S128x100000 : Shape := ⟨2, ![128, 100000]⟩
abbrev S_ : Shape := ⟨0, ![]⟩

class Facts : Prop where

variable [Facts]

def fn {F : FTy → Type} [FloatOps F] (main_arg0 : FVec F S128x100000 .f32) (main_arg1 : FVec F S128x100000 .f32) (main_arg2 : IVec S_ 32) : IVec S_ 1 :=
  let main_c : IVec S_ 32 := constantI S_ 32 0#32
  let main_v0 : IVec S_ 1 := cmpi .sge main_arg2 main_c
  let main_c_0 : IVec S_ 32 := constantI S_ 32 100000#32
  let main_v1 : IVec S_ 1 := cmpi .slt main_arg2 main_c_0
  let main_v2 : IVec S_ 1 := andi main_v0 main_v1
  main_v2
-- ==== Kernel.lean ====
abbrev S128x100000 : Shape := ⟨2, ![128, 100000]⟩
abbrev S_ : Shape := ⟨0, ![]⟩
abbrev S1 : Shape := ⟨1, ![1]⟩
abbrev S100000x128 : Shape := ⟨2, ![100000, 128]⟩
abbrev S8 : Shape := ⟨1, ![8]⟩
abbrev S1x128 : Shape := ⟨2, ![1, 128]⟩
abbrev S1x1 : Shape := ⟨2, ![1, 1]⟩

abbrev nBuf : Table → Nat
  | .hbm => 9
  | .local .scScalar .smem => 4
  | _ => 0

abbrev bufTy : (tb : Table) → Fin (nBuf tb) → BufTy
  | .hbm, ⟨0, _⟩ => ⟨S128x100000, .f32⟩
  | .hbm, ⟨1, _⟩ => ⟨S128x100000, .f32⟩
  | .hbm, ⟨2, _⟩ => ⟨S_, .i32⟩
  | .hbm, ⟨3, _⟩ => ⟨S1, .i32⟩
  | .hbm, ⟨4, _⟩ => ⟨S100000x128, .f32⟩
  | .hbm, ⟨5, _⟩ => ⟨S100000x128, .f32⟩
  | .hbm, ⟨6, _⟩ => ⟨S8, .f32⟩
  | .hbm, ⟨7, _⟩ => ⟨S1, .f32⟩
  | .hbm, ⟨8, _⟩ => ⟨S_, .f32⟩
  | .local .scScalar .smem, ⟨0, _⟩ => ⟨S1, .i32⟩
  | .local .scScalar .smem, ⟨1, _⟩ => ⟨S1x128, .f32⟩
  | .local .scScalar .smem, ⟨2, _⟩ => ⟨S1x128, .f32⟩
  | .local .scScalar .smem, ⟨3, _⟩ => ⟨S8, .f32⟩
  | _, _ => ⟨S128x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v1_scs : Ref sig .scScalar := ⟨.hbm, 4, rfl⟩
abbrev main_v2_scs : Ref sig .scScalar := ⟨.hbm, 5, rfl⟩
abbrev main_v0_scs : Ref sig .scScalar := ⟨.hbm, 3, rfl⟩
abbrev main_v3_scs : Ref sig .scScalar := ⟨.hbm, 6, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0 : BitVec 32 := 0#32
  ![v1.toNat, 0]

def k0_chk1 (v1 : BitVec 32) : Prop :=
  (∀ a, (k0_off1 v1) a + S1x128.size a ≤ S100000x128.size a)
theorem k0_off1_inb : ∀ (v1 : BitVec 32) (k0_hw1 : k0_chk1 v1), ∀ a, (k0_off1 v1) a + S1x128.size a ≤ S100000x128.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩

abbrev nBuf : Space → Nat
  | .hbm => 22
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .i32⟩
  | .hbm, ⟨3, _⟩ => ⟨S_, .f32⟩
  | .hbm, ⟨4, _⟩ => ⟨S128x100000, .f32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S2, .i32⟩
  | .hbm, ⟨14, _⟩ => ⟨S_, .f32⟩
  | .hbm, ⟨15, _⟩ => ⟨S128x100000, .f32⟩
  | .hbm, ⟨16, _⟩ => ⟨S128x100000, .f32⟩
  | .hbm, ⟨17, _⟩ => ⟨S128x100000, .f32⟩
  | .hbm, ⟨18, _⟩ => ⟨S128x100000, .f32⟩
  | .hbm, ⟨19, _⟩ => ⟨S_, .f32⟩
  | .hbm, ⟨20, _⟩ => ⟨S_, .f32⟩
  | .hbm, ⟨21, _⟩ => ⟨S_, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.Body.lean ====
/-
  The kernel's body on the sequencer of a SparseCore, at any float instance `F`: the target index into scalar memory,
  the two rows it selects by two transfers outstanding on one semaphore, the word computed from them, and the scratch
  carrying it out to the result.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.ValueIdxCore
public import Idealize.ShloMosaic.Lib.WritesUnit
public import proofs.«01_k».proof.Proof.Gen.KernelIdeal
public import proofs.«01_k».proof.Proof.Gen.KernelIdeal.Skeleton

@[expose] public section

noncomputable section

namespace Cert.Proof.Row

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix0 ix1 ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own side conditions: its semaphores are four apart, none scoped where it would be reset. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds, the left factor of the ghost state; the transfers' counters are the right. -/
abbrev EH : Emb UH (MT nD τ sig (HIx 1) (Elt F) ℕ UU ℕ) := embL

/-! ## The body's buffers and semaphores -/

-- the kernel's memrefs as its printed call passes them
local notation "ytW" => (Memref.whole Cert.KernelIdeal.main_v1_scs : Memref Cert.KernelIdeal.sig Kind.scScalar Space.hbm Cert.KernelIdeal.S100000x128 EltTy.f32)
local notation "ypW" => (Memref.whole Cert.KernelIdeal.main_v2_scs : Memref Cert.KernelIdeal.sig Kind.scScalar Space.hbm Cert.KernelIdeal.S100000x128 EltTy.f32)
local notation "tvW" => (Memref.whole Cert.KernelIdeal.main_v0_scs : Memref Cert.KernelIdeal.sig Kind.scScalar Space.hbm Cert.KernelIdeal.S1 EltTy.i32)
local notation "outW" => (Memref.whole Cert.KernelIdeal.main_v3_scs : Memref Cert.KernelIdeal.sig Kind.scScalar Space.hbm Cert.KernelIdeal.S8 EltTy.f32)
local notation "sIdx" => (Memref.whole Cert.KernelIdeal.cc0_scratch0 : Memref Cert.KernelIdeal.sig Kind.scScalar Space.smem Cert.KernelIdeal.S1 EltTy.i32)
local notation "sYt" => (Memref.whole Cert.KernelIdeal.cc0_scratch1 : Memref Cert.KernelIdeal.sig Kind.scScalar Space.smem Cert.KernelIdeal.S1x128 EltTy.f32)
local notation "sYp" => (Memref.whole Cert.KernelIdeal.cc0_scratch2 : Memref Cert.KernelIdeal.sig Kind.scScalar Space.smem Cert.KernelIdeal.S1x128 EltTy.f32)
local notation "sOut" => (Memref.whole Cert.KernelIdeal.cc0_scratch3 : Memref Cert.KernelIdeal.sig Kind.scScalar Space.smem Cert.KernelIdeal.S8 EltTy.f32)

abbrev ytLoc (d : Dev nD) : Loc nD τ sig := (SparseCore.T d).loc main_v1
abbrev ypLoc (d : Dev nD) : Loc nD τ sig := (SparseCore.T d).loc main_v2
abbrev tvLoc (d : Dev nD) : Loc nD τ sig := (SparseCore.T d).loc main_v0
abbrev outLoc (d : Dev nD) : Loc nD τ sig := (SparseCore.T d).loc main_v3

section Own

variable (d : Dev nD) (c : Fin τ.nSC)

abbrev semRows : GSem nD τ sig := (S d c, .dma cc0_scratch4.sem)
abbrev semIn : GSem nD τ sig := (S d c, .dma cc0_scoped0.sem)
abbrev semOut : GSem nD τ sig := (S d c, .dma cc0_scoped1.sem)

/-- The sequencer's own semaphores are the rows' one, the index's one and the result's one, each at zero, and a rest. -/
theorem ownSems0_S :
    (ownSems0 (S d c) : sProp 𝕄) = iprop(semVal (semRows d c) 0 ∗ semVal (semIn d c) 0 ∗ semVal (semOut d c) 0
      ∗ bigSep ((((ownCells (S d c)).erase (semRows d c)).erase (semIn d c)).erase (semOut d c)) fun g => semVal g 0) := by
  unfold SparseCore.Cfg.ownSems0
  rw [SparseCore.bigSep_erase' ((mem_ownCells (g := semRows d c)).mpr ⟨rfl, by
      show (SemLoc.dma cc0_scratch4.sem : SemLoc sig).isScoped .scScalar = true; decide⟩),
    SparseCore.bigSep_erase' (Finset.mem_erase.mpr ⟨by simp [semRows, semIn]; decide, (mem_ownCells (g := semIn d c)).mpr ⟨rfl, by
      show (SemLoc.dma cc0_scoped0.sem : SemLoc sig).isScoped .scScalar = true; decide⟩⟩),
    SparseCore.bigSep_erase' (Finset.mem_erase.mpr ⟨by simp [semIn, semOut]; decide, Finset.mem_erase.mpr ⟨by simp [semRows, semOut]; decide,
      (mem_ownCells (g := semOut d c)).mpr ⟨rfl, by show (SemLoc.dma cc0_scoped1.sem : SemLoc sig).isScoped .scScalar = true; decide⟩⟩⟩)]

/-- The name a sequencer's scratch has on the device. -/
abbrev scr (b : Ref sig .scScalar) : DevRef τ sig := (Proc.scScalar c).devRef b

theorem scr_ne {a b : Ref sig .scScalar} (h : a ≠ b) : scr c a ≠ scr c b := fun e => h (Proc.devRef_injective _ e)

/-- The sequencer's own buffers are the four scratches, each at some contents, and a rest. -/
theorem ownBufs_S :
    (ownBufs (S d c) : sProp 𝕄)
      = iprop((∃ f, (S d c).loc cc0_scratch0 ↦{fullShare} f) ∗ (∃ f, (S d c).loc cc0_scratch1 ↦{fullShare} f)
          ∗ (∃ f, (S d c).loc cc0_scratch2 ↦{fullShare} f) ∗ (∃ f, (S d c).loc cc0_scratch3 ↦{fullShare} f)
          ∗ bigSep (((((ownRefs (τ := τ) (.scScalar c)).erase (scr c cc0_scratch0)).erase (scr c cc0_scratch1)).erase
              (scr c cc0_scratch2)).erase (scr c cc0_scratch3)) fun b => iprop(∃ f, ((d, b) : Loc nD τ sig) ↦{fullShare} f)) := by
  have own : ∀ b : Ref sig .scScalar, (scr c b).owner.home = .scScalar c → scr c b ∈ ownRefs (τ := τ) (.scScalar c) :=
    fun _ h => mem_ownRefs.mpr h
  unfold SparseCore.Cfg.ownBufs
  refine (SparseCore.bigSep_erase' (own cc0_scratch0 rfl)).trans ?_
  rw [SparseCore.bigSep_erase' (Finset.mem_erase.mpr ⟨scr_ne c (by decide), own cc0_scratch1 rfl⟩),
    SparseCore.bigSep_erase' (Finset.mem_erase.mpr ⟨scr_ne c (by decide), Finset.mem_erase.mpr ⟨scr_ne c (by decide), own cc0_scratch2 rfl⟩⟩),
    SparseCore.bigSep_erase' (Finset.mem_erase.mpr ⟨scr_ne c (by decide), Finset.mem_erase.mpr ⟨scr_ne c (by decide),
      Finset.mem_erase.mpr ⟨scr_ne c (by decide), own cc0_scratch3 rfl⟩⟩⟩)]

end Own

variable [FloatOps F]

/-! ## The body's run -/

section Body

variable (d : Dev nD) (L : grid0.Coords)

/-- The sequencer's thread at grid point `L`. -/
abbrev sq : Thread nD τ := S d ((L 0).castLE hcore0)

/-- A target below the row count keeps the row's slice inside the array. -/
theorem chk_of_row {w : BitVec 32} {t : Fin 100000} (h : w.toNat = t.val) : k0_chk1 w := by
  intro a
  match a with
  | ⟨0, _⟩ => show w.toNat + 1 ≤ 100000; have := t.isLt; omega
  | ⟨1, _⟩ => show 0 + 128 ≤ 128; omega

/-- The first column of row `t`, found by the slice at the word `w` whose value is `t`. -/
theorem row_first {w : BitVec 32} {t : Fin 100000} (h : w.toNat = t.val) (hk : k0_chk1 w) (x : S1x128.Idx) (h1 : (x 1).val = 0) :
    (Rect.unit (s := S100000x128) (k0_off1 w) S1x128.size (k0_off1_inb w hk)).emb x = ix2 t (0 : Fin 128) := by
  funext a
  refine Fin.ext ?_
  match a with
  | ⟨0, _⟩ =>
    show w.toNat + 1 * (x 0).val = t.val
    have h0 : (x 0).val < 1 := (x 0).isLt
    omega
  | ⟨1, _⟩ =>
    show 0 + 1 * (x 1).val = 0
    omega

/-- The index's word once it has landed: a word of the array it came from. -/
theorem idx_word (fI : Buf (Elt F) (tvLoc d)) (g0 : Buf (Elt F) ((sq d L).loc cc0_scratch0)) (t : Fin 100000)
    (hI : ∀ i, BitVec.toNat (fI i) = t.val) (x : S1.Idx) :
    BitVec.toNat (View.readAt (Elt F) (sIdx).view (Rect.unit (s := S1) ![0] S1.size inb_S1_S1_0).toLoadRect
      (View.write (Elt F) (sIdx).view g0 (ReadAs.same.apply (View.read (Elt F) (tvW).view fI)) Finset.univ) x) = t.val := by
  refine Eq.trans (congrArg BitVec.toNat ?_) (hI ((Rect.unit (s := S1) ![0] S1.size inb_S1_S1_0).emb x))
  exact congrFun (congrArg (View.readAt (Elt F) (sIdx).view (Rect.unit (s := S1) ![0] S1.size inb_S1_S1_0).toLoadRect) (View.write_whole_univ _ _ _)) x

/-- The first word of the true row once it has landed. -/
theorem yt_word (fT : Buf (Elt F) (ytLoc d)) (g1 : Buf (Elt F) ((sq d L).loc cc0_scratch1)) {w : BitVec 32} {t : Fin 100000}
    (h : w.toNat = t.val) (hk : k0_chk1 w) (x : S1x1.Idx) :
    View.readAt (Elt F) (sYt).view (Rect.unit (s := S1x128) ![0, 0] S1x1.size inb_S1x128_S1x1_0_0).toLoadRect
      (View.write (Elt F) (sYt).view g1 (ReadAs.same.apply (View.read (Elt F)
        ((ytW).slice (Rect.unit (s := S100000x128) (k0_off1 w) S1x128.size (k0_off1_inb w hk)) (fun _ => rfl)).view fT)) Finset.univ) x
      = fT (ix2 t (0 : Fin 128)) := by
  refine (congrFun (congrArg (View.readAt (Elt F) (sYt).view (Rect.unit (s := S1x128) ![0, 0] S1x1.size inb_S1x128_S1x1_0_0).toLoadRect)
    (View.write_whole_univ _ _ _)) x).trans (congrArg fT (row_first h hk ((Rect.unit (s := S1x128) ![0, 0] S1x1.size inb_S1x128_S1x1_0_0).emb x) ?_))
  have h1 : (x 1).val < 1 := (x 1).isLt
  show 0 + 1 * (x 1).val = 0
  omega

/-- The first word of the predicted row once it has landed. -/
theorem yp_word (fP : Buf (Elt F) (ypLoc d)) (g2 : Buf (Elt F) ((sq d L).loc cc0_scratch2)) {w : BitVec 32} {t : Fin 100000}
    (h : w.toNat = t.val) (hk : k0_chk1 w) (x : S1x1.Idx) :
    View.readAt (Elt F) (sYp).view (Rect.unit (s := S1x128) ![0, 0] S1x1.size inb_S1x128_S1x1_0_0).toLoadRect
      (View.write (Elt F) (sYp).view g2 (ReadAs.same.apply (View.read (Elt F)
        ((ypW).slice (Rect.unit (s := S100000x128) (k0_off1 w) S1x128.size (k0_off1_inb w hk)) (fun _ => rfl)).view fP)) Finset.univ) x
      = fP (ix2 t (0 : Fin 128)) := by
  refine (congrFun (congrArg (View.readAt (Elt F) (sYp).view (Rect.unit (s := S1x128) ![0, 0] S1x1.size inb_S1x128_S1x1_0_0).toLoadRect)
    (View.write_whole_univ _ _ _)) x).trans (congrArg fP (row_first h hk ((Rect.unit (s := S1x128) ![0, 0] S1x1.size inb_S1x128_S1x1_0_0).emb x) ?_))
  have h1 : (x 1).val < 1 := (x 1).isLt
  show 0 + 1 * (x 1).val = 0
  omega

/-- The result's first word: the word stored first in the scratch the result is copied from. -/
theorem out_word (fO : Buf (Elt F) (outLoc d)) (g3 : Buf (Elt F) ((sq d L).loc cc0_scratch3)) (w : F .f32) :
    View.write (Elt F) (outW).view fO (ReadAs.same.apply (View.read (Elt F) (sOut).view
      ((sOut).view.writes (Elt F) g3 [⟨Rect.unit (s := S8) ![0] S1.size inb_S8_S1_0, fun _ => w⟩]))) Finset.univ (ix1 (0 : Fin 8)) = w :=
  (congrFun (View.write_whole_univ _ _ _) _).trans
    (View.read_writes_cons_unit_of_mem (sOut).view g3 inb_S8_S1_0 (fun _ => w) [] (ix1 (0 : Fin 8)) (ix1 (0 : Fin 1)) rfl (by
      intro a; match a with | ⟨0, _⟩ => rfl))

/-- A wait of the body's own, recorded over waits that are either the launch's or the body's, keeps them so. -/
theorem recorded {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-- What the body leaves of the result: the word it computed from the two rows' first columns, in the first place. -/
def Done (t : Fin 100000) (fT : Buf (Elt F) (ytLoc d)) (fP : Buf (Elt F) (ypLoc d)) (g : Buf (Elt F) (outLoc d)) : Prop :=
  g (ix1 (0 : Fin 8)) = k0_pay1 (fP (ix2 t (0 : Fin 128))) (fT (ix2 t (0 : Fin 128)))

/-- The body from its arrays, its scratches and its semaphores: it ends with the arrays it reads unchanged, the result's
    first word the one computed from row `t`, and every semaphore back at zero. -/
theorem body_run (O : CellTallies nD τ sig (HIx 1)) (W : Waits sig (HIx 1))
    (fT : Buf (Elt F) (ytLoc d)) (fP : Buf (Elt F) (ypLoc d)) (fI : Buf (Elt F) (tvLoc d)) (fO : Buf (Elt F) (outLoc d))
    (g0 : Buf (Elt F) ((sq d L).loc cc0_scratch0)) (g1 : Buf (Elt F) ((sq d L).loc cc0_scratch1))
    (g2 : Buf (Elt F) ((sq d L).loc cc0_scratch2)) (g3 : Buf (Elt F) ((sq d L).loc cc0_scratch3))
    (t : Fin 100000) (hI : ∀ i, BitVec.toNat (fI i) = t.val)
    (_plan : Transfers.BatchOf (sq d L) (SemLoc.dma (sig := sig) cc0_scratch4.sem) 2) :
    iprop(Transfers.MayWaits (sq d L) (default : HIx 1) O
        ∗ ((ytW).view.loc (sq d L) ↦{fullShare} fT) ∗ ((ypW).view.loc (sq d L) ↦{fullShare} fP)
        ∗ ((tvW).view.loc (sq d L) ↦{fullShare} fI) ∗ ((outW).view.loc (sq d L) ↦{fullShare} fO)
        ∗ ((sIdx).view.loc (sq d L) ↦{fullShare} g0) ∗ ((sYt).view.loc (sq d L) ↦{fullShare} g1)
        ∗ ((sYp).view.loc (sq d L) ↦{fullShare} g2) ∗ ((sOut).view.loc (sq d L) ↦{fullShare} g3)
        ∗ semVal (semRows d ((L 0).castLE hcore0)) 0 ∗ semVal (semIn d ((L 0).castLE hcore0)) 0 ∗ semVal (semOut d ((L 0).castLE hcore0)) 0
        ∗ (owes (sq d L) O W : sProp 𝕄))
      ⊢ wp frame (wpE (defs₀ (F := F)) 𝒱₀ (sq d L) none) Set.univ
          (cc0__sc_body L ytW (Memref.isWhole_whole _) ypW (Memref.isWhole_whole _) tvW (Memref.isWhole_whole _) outW (Memref.isWhole_whole _)
            sIdx (Memref.isWhole_whole _) sYt (Memref.isWhole_whole _) sYp (Memref.isWhole_whole _) sOut (Memref.isWhole_whole _)
            cc0_scratch4 cc0_scoped0 cc0_scoped1)
          fun _ => iprop(((ytW).view.loc (sq d L) ↦{fullShare} fT) ∗ ((ypW).view.loc (sq d L) ↦{fullShare} fP)
            ∗ ((tvW).view.loc (sq d L) ↦{fullShare} fI) ∗ (∃ g : Buf (Elt F) (outLoc d), ⌜Done d t fT fP g⌝ ∗ ((outW).view.loc (sq d L) ↦{fullShare} g))
            ∗ (∃ g, (sIdx).view.loc (sq d L) ↦{fullShare} g) ∗ (∃ g, (sYt).view.loc (sq d L) ↦{fullShare} g)
            ∗ (∃ g, (sYp).view.loc (sq d L) ↦{fullShare} g) ∗ (∃ g, (sOut).view.loc (sq d L) ↦{fullShare} g)
            ∗ semVal (semRows d ((L 0).castLE hcore0)) 0 ∗ semVal (semIn d ((L 0).castLE hcore0)) 0 ∗ semVal (semOut d ((L 0).castLE hcore0)) 0
            ∗ ∃ W', ⌜∀ p ∈ W', p ∈ W ∨ p.2 = none⌝ ∗ (owes (sq d L) O W' : sProp 𝕄)) := by
  have hk : ∀ i, k0_chk1 (fI i) := fun i => chk_of_row (hI i)
  rw [cc0__sc_body_eq_skeleton]; delta cc0__sc_body_skel
  iintro ⟨Hmw, HT, HP, HI, HU, H0, H1, H2, H3, HsR, HsI, HsO, HO⟩
  sl_exec
  sl_step
  isplitl [HT]; · iexact HT
  isplitl [HP]; · iexact HP
  isplitl [HI]; · iexact HI
  isplitl [HU]
  · iexists _; isplitr [HU]
    swap; · iexact HU
    ipureintro
    refine (out_word d L fO g3 _).trans ?_
    unfold body_run.sl.r_1 body_run.sl.r_2 body_run.sl.f body_run.sl.f_1
    exact congrArg₂ k0_pay1 (yp_word d L fP g2 (idx_word d L fI g0 t hI _) (chk_of_row (idx_word d L fI g0 t hI _)) _)
      (yt_word d L fT g1 (idx_word d L fI g0 t hI _) (chk_of_row (idx_word d L fI g0 t hI _)) _)
  isplitl [H0]; · iexists _; iexact H0
  isplitl [H1]; · iexists _; iexact H1
  isplitl [H2]; · iexists _; iexact H2
  isplitl [H3]; · iexists _; iexact H3
  isplitl [HsR]; · iexact HsR
  isplitl [HsI]; · iexact HsI
  isplitl [HsO]; · iexact HsO
  iexists _; isplitr [HO]
  swap; · iexact HO
  ipureintro
  exact recorded (recorded (recorded (recorded fun _ hp => .inl hp)))

end Body

end Cert.Proof.Row

end
-- ==== Proof.Run.lean ====
/-
  The whole program's run, at any float instance `F`: the three host operations before the call, the call on the
  SparseCore's sequencer, the two host operations after it. It ends with the arguments unchanged, the result the negated
  square of the difference of the two arrays at row 0 and the target's column, and every semaphore back at zero.
-/
module

public import proofs.«01_k».proof.Proof.Body
public import Idealize.ShloMosaic.Lib.ValueLayout

@[expose] public section

noncomputable section

namespace Cert.Proof.Row

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix0 ix1 ix2)

variable {F : FTy → Type}

local notation "𝕄" => MT nD τ sig (HIx 1) (Elt F) ℕ UU ℕ

-- the kernel's memrefs as its printed call passes them
local notation "ytW" => (Memref.whole Cert.KernelIdeal.main_v1_scs : Memref Cert.KernelIdeal.sig Kind.scScalar Space.hbm Cert.KernelIdeal.S100000x128 EltTy.f32)
local notation "ypW" => (Memref.whole Cert.KernelIdeal.main_v2_scs : Memref Cert.KernelIdeal.sig Kind.scScalar Space.hbm Cert.KernelIdeal.S100000x128 EltTy.f32)
local notation "tvW" => (Memref.whole Cert.KernelIdeal.main_v0_scs : Memref Cert.KernelIdeal.sig Kind.scScalar Space.hbm Cert.KernelIdeal.S1 EltTy.i32)
local notation "outW" => (Memref.whole Cert.KernelIdeal.main_v3_scs : Memref Cert.KernelIdeal.sig Kind.scScalar Space.hbm Cert.KernelIdeal.S8 EltTy.f32)
local notation "sIdx" => (Memref.whole Cert.KernelIdeal.cc0_scratch0 : Memref Cert.KernelIdeal.sig Kind.scScalar Space.smem Cert.KernelIdeal.S1 EltTy.i32)
local notation "sYt" => (Memref.whole Cert.KernelIdeal.cc0_scratch1 : Memref Cert.KernelIdeal.sig Kind.scScalar Space.smem Cert.KernelIdeal.S1x128 EltTy.f32)
local notation "sYp" => (Memref.whole Cert.KernelIdeal.cc0_scratch2 : Memref Cert.KernelIdeal.sig Kind.scScalar Space.smem Cert.KernelIdeal.S1x128 EltTy.f32)
local notation "sOut" => (Memref.whole Cert.KernelIdeal.cc0_scratch3 : Memref Cert.KernelIdeal.sig Kind.scScalar Space.smem Cert.KernelIdeal.S8 EltTy.f32)

abbrev aLoc (d : Dev nD) : Loc nD τ sig := (SparseCore.T d).loc main_arg0
abbrev bLoc (d : Dev nD) : Loc nD τ sig := (SparseCore.T d).loc main_arg1
abbrev cLoc (d : Dev nD) : Loc nD τ sig := (SparseCore.T d).loc main_arg2
abbrev rLoc (d : Dev nD) : Loc nD τ sig := (SparseCore.T d).loc main_v5

/-! ## The arrays the call is given, and the program's result -/

variable (m : (ℓ : Loc nD τ sig) → Buf (Elt F) ℓ) (ρ : Dev nD → PrngReg)

/-- The true values by columns, as the host's transpose lays them out. -/
def YT (d : Dev nD) : Buf (Elt F) (ytLoc d) := transpose S100000x128 [1, 0] (m (aLoc d) : S128x100000.Idx → Elt F .f32) transposes_S128x100000_S100000x128_1_0
/-- The predicted values likewise. -/
def YP (d : Dev nD) : Buf (Elt F) (ypLoc d) := transpose S100000x128 [1, 0] (m (bLoc d) : S128x100000.Idx → Elt F .f32) transposes_S128x100000_S100000x128_1_0
/-- The target in a one-word array. -/
def TV (d : Dev nD) : Buf (Elt F) (tvLoc d) := fun i => shapeCast S1 (m (cLoc d) : S_.Idx → Elt F .i32) shapeCasts_S_S1 i

theorem YT_apply (d : Dev nD) (t : Fin 100000) : YT m d (ix2 t (0 : Fin 128)) = (m (aLoc d) : S128x100000.Idx → Elt F .f32) (ix2 (0 : Fin 128) t) :=
  ValueIdx.transpose_ix2_apply _ _ _ _
theorem YP_apply (d : Dev nD) (t : Fin 100000) : YP m d (ix2 t (0 : Fin 128)) = (m (bLoc d) : S128x100000.Idx → Elt F .f32) (ix2 (0 : Fin 128) t) :=
  ValueIdx.transpose_ix2_apply _ _ _ _

variable [FloatOps F]

/-- The program's result when the target is `t`: the word the body computes from the two arrays at row 0, column `t`. -/
def Res (t : Dev nD → Fin 100000) (d : Dev nD) : Buf (Elt F) (rLoc d) := fun _ =>
  k0_pay1 ((m (bLoc d) : S128x100000.Idx → Elt F .f32) (ix2 (0 : Fin 128) (t d))) ((m (aLoc d) : S128x100000.Idx → Elt F .f32) (ix2 (0 : Fin 128) (t d)))

variable (t : Dev nD → Fin 100000)

/-! ## What the call is handed and hands back -/

abbrev inPts (d : Dev nD) : sProp 𝕄 :=
  iprop((ytLoc d ↦{fullShare} YT m d) ∗ (ypLoc d ↦{fullShare} YP m d) ∗ (tvLoc d ↦{fullShare} TV m d))

/-- In: the two transposed arrays, the target, the result's buffer at any contents. Out: the same, the buffer's first
    word the computed one. -/
def P : (K (F := F)).Pay (nD := nD) (Val := Elt F) (Name := ℕ) (U := UU) where
  st := fun _ d _ => iprop(inPts m d ∗ ∃ g : Buf (Elt F) (outLoc d), outLoc d ↦{fullShare} g)
  dn := fun _ d _ => iprop(inPts m d ∗ ∃ g : Buf (Elt F) (outLoc d), ⌜Done d (t d) (YT m d) (YP m d) g⌝ ∗ outLoc d ↦{fullShare} g)
  go := fun _ _ _ _ => iprop(emp)
  td := fun _ _ _ _ => iprop(emp)
  x := fun _ _ => iprop(emp)

instance P_storable : (P (F := F) m t).IsStorable where
  st _ d c := by unfold P; infer_instance
  dn _ d c := by unfold P; infer_instance
  go _ _ _ _ := by unfold P; infer_instance
  td _ _ _ _ := by unfold P; infer_instance

/-! ## The sequencer's obligation -/

section Body

variable (d : Dev nD) (L : grid0.Coords)

/-- The body in the launch's shape: the sequencer's buffers opened at the four scratches, its semaphores at the three,
    around `body_run`, and packed again. -/
theorem body_obl (ht : ∀ i, BitVec.toNat (TV m d i) = (t d).val) (O : CellTallies nD τ sig (HIx 1)) (W : Waits sig (HIx 1)) (hO : ∀ g, O g none = 0) :
    iprop(levAts (K (F := F)).L (K (F := F)).lev ∗ emp ∗ (inPts m d ∗ ∃ g : Buf (Elt F) (outLoc d), outLoc d ↦{fullShare} g)
        ∗ scopedBufs (sq d L) ∗ scopedSems0 (sq d L) ∗ owes (sq d L) O W)
      ⊢ wp frame (wpE (defs₀ (F := F)) 𝒱₀ (sq d L) none) Set.univ
          (cc0__sc_body L ytW (Memref.isWhole_whole _) ypW (Memref.isWhole_whole _) tvW (Memref.isWhole_whole _) outW (Memref.isWhole_whole _)
            sIdx (Memref.isWhole_whole _) sYt (Memref.isWhole_whole _) sYp (Memref.isWhole_whole _) sOut (Memref.isWhole_whole _)
            cc0_scratch4 cc0_scoped0 cc0_scoped1)
          fun _ => iprop((inPts m d ∗ ∃ g : Buf (Elt F) (outLoc d), ⌜Done d (t d) (YT m d) (YP m d) g⌝ ∗ outLoc d ↦{fullShare} g)
            ∗ scopedBufs (sq d L) ∗ scopedSems0 (sq d L)
            ∗ ∃ W', ⌜∀ p ∈ W', p ∈ W ∨ p.2 = none ∨ p.2 = some (0 : Fin 1)⌝ ∗ owes (sq d L) O W') := by
  rw [(K (F := F)).scopedBufs_S facts d _, SparseCore.Cfg.scopedSems0_S (Val := Elt F) d _, ownSems0_S, ownBufs_S]
  iintro ⟨#Hlv, -, ⟨⟨HT, HP, HI⟩, %fO, HU⟩, ⟨⟨⟨%g0, H0⟩, ⟨%g1, H1⟩, ⟨%g2, H2⟩, ⟨%g3, H3⟩, Hbufs⟩, Htiles⟩, ⟨⟨HsR, HsI, HsO, Hsems⟩, HtileSems⟩, HO⟩
  ihave Hmw := ((K (F := F)).mayWaits_none (thr := sq d L) hO) $$ Hlv
  iapply (wp_wand_r Idealize.ShloMosaic.frame (wpE (defs₀ (F := F)) 𝒱₀ (sq d L) none) Set.univ)
  isplitl [HT HP HI HU H0 H1 H2 H3 HsR HsI HsO HO]
  · iapply (body_run d L O W (YT m d) (YP m d) (TV m d) fO g0 g1 g2 g3 (t d) ht trivial)
    isplitr; · iexact Hmw
    isplitl [HT]; · iexact HT
    isplitl [HP]; · iexact HP
    isplitl [HI]; · iexact HI
    isplitl [HU]; · iexact HU
    isplitl [H0]; · iexact H0
    isplitl [H1]; · iexact H1
    isplitl [H2]; · iexact H2
    isplitl [H3]; · iexact H3
    isplitl [HsR]; · iexact HsR
    isplitl [HsI]; · iexact HsI
    isplitl [HsO]; · iexact HsO
    iexact HO
  iintro %_ ⟨HT, HP, HI, ⟨%g, %hg, HU⟩, ⟨%g0', H0⟩, ⟨%g1', H1⟩, ⟨%g2', H2⟩, ⟨%g3', H3⟩, HsR, HsI, HsO, %W', %hW', HO⟩
  isplitl [HT HP HI HU]
  · isplitl [HT HP HI]
    · isplitl [HT]; · iexact HT
      isplitl [HP]; · iexact HP
      iexact HI
    iexists g; isplitr
    · ipureintro; exact hg
    · iexact HU
  isplitl [H0 H1 H2 H3 Hbufs Htiles]
  · isplitl [H0 H1 H2 H3 Hbufs]
    · isplitl [H0]; · iexists g0'; iexact H0
      isplitl [H1]; · iexists g1'; iexact H1
      isplitl [H2]; · iexists g2'; iexact H2
      isplitl [H3]; · iexists g3'; iexact H3
      iexact Hbufs
    iexact Htiles
  isplitl [HsR HsI HsO Hsems HtileSems]
  · isplitl [HsR HsI HsO Hsems]
    · isplitl [HsR]; · iexact HsR
      isplitl [HsI]; · iexact HsI
      isplitl [HsO]; · iexact HsO
      iexact Hsems
    iexact HtileSems
  iexists W'; isplitr
  · ipureintro; exact fun p hp => (hW' p hp).imp_right Or.inl
  · iexact HO

end Body

def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__sc_body (coordsS c) ytW (Memref.isWhole_whole _) ypW (Memref.isWhole_whole _) tvW (Memref.isWhole_whole _)
          outW (Memref.isWhole_whole _) sIdx (Memref.isWhole_whole _) sYt (Memref.isWhole_whole _) sYp (Memref.isWhole_whole _) sOut (Memref.isWhole_whole _)
          cc0_scratch4 cc0_scoped0 cc0_scoped1) ⟨⟩ c := rfl

/-- The launch's obligation at the one call: the sequencer of the grid's one SparseCore runs the body. -/
theorem scalarObl (ht : ∀ d i, BitVec.toNat (TV m d i) = (t d).val) : (K (F := F)).ScalarObl (D (F := F)) 𝒱 (P m t) v₀ 0 := by
  intro d c O W hO _ _
  simp only [show (P m t).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body_obl m t d (coordsS ⟨_, hc⟩) (ht d) O W hO

/-! ## The launch element: the handshakes' rounds; nothing of the kernel's own -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m t).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m t).x q thr) = bigSep Finset.univ fun _ => iprop(emp) from
    bigSep_congr fun _ _ => bigSep_univ_of_subsingleton (0 : Fin 1), emps]
  iempintro

/-! ## @main on the TensorCore -/

abbrev a' : DevRef τ sig := Proc.devRef .tc (main_arg0 : Ref sig .tc)
abbrev b' : DevRef τ sig := Proc.devRef .tc (main_arg1 : Ref sig .tc)
abbrev c' : DevRef τ sig := Proc.devRef .tc (main_arg2 : Ref sig .tc)
abbrev tv' : DevRef τ sig := Proc.devRef .tc (main_v0 : Ref sig .tc)
abbrev yt' : DevRef τ sig := Proc.devRef .tc (main_v1 : Ref sig .tc)
abbrev yp' : DevRef τ sig := Proc.devRef .tc (main_v2 : Ref sig .tc)
abbrev out' : DevRef τ sig := Proc.devRef .tc (main_v3 : Ref sig .tc)
abbrev o1' : DevRef τ sig := Proc.devRef .tc (main_v4 : Ref sig .tc)
abbrev r' : DevRef τ sig := Proc.devRef .tc (main_v5 : Ref sig .tc)

abbrev opTv : HloOp τ sig (Elt F) := StableHlo.reshape main_arg2 main_v0 (rfl : (.i32 : EltTy) = .i32) shapeCasts_S_S1
abbrev opYt : HloOp τ sig (Elt F) := StableHlo.unary main_arg0 main_v1 ((transpose S100000x128 [1, 0] · transposes_S128x100000_S100000x128_1_0) : (⟨S128x100000, .f32⟩ : BufTy).Contents (Elt F) → (⟨S100000x128, .f32⟩ : BufTy).Contents (Elt F))
abbrev opYp : HloOp τ sig (Elt F) := StableHlo.unary main_arg1 main_v2 ((transpose S100000x128 [1, 0] · transposes_S128x100000_S100000x128_1_0) : (⟨S128x100000, .f32⟩ : BufTy).Contents (Elt F) → (⟨S100000x128, .f32⟩ : BufTy).Contents (Elt F))
abbrev opCut : HloOp τ sig (Elt F) := StableHlo.unary main_v3 main_v4 ((extractStridedSlice S1 ![0] · slices_S8_S1_0) : (⟨S8, .f32⟩ : BufTy).Contents (Elt F) → (⟨S1, .f32⟩ : BufTy).Contents (Elt F))
abbrev opRes : HloOp τ sig (Elt F) := StableHlo.reshape main_v4 main_v5 (rfl : (.f32 : EltTy) = .f32) shapeCasts_S1_S_

/-- The TensorCore's arrays, all unscoped: the arguments, the call's operands, its result, the result's two forms. -/
abbrev S9 : Finset (DevRef τ sig) := {a', b', c', tv', yt', yp', out', o1', r'}

omit [FloatOps F] in
theorem held_S9 (d : Dev nD) (W : Valuation τ sig (Elt F)) :
    (held (T d) S9 W : sProp 𝕄)
      = iprop((aLoc d ↦{fullShare} W a') ∗ (bLoc d ↦{fullShare} W b') ∗ (cLoc d ↦{fullShare} W c') ∗ (tvLoc d ↦{fullShare} W tv')
          ∗ (ytLoc d ↦{fullShare} W yt') ∗ (ypLoc d ↦{fullShare} W yp') ∗ (outLoc d ↦{fullShare} W out')
          ∗ ((SparseCore.T d).loc main_v4 ↦{fullShare} W o1') ∗ rLoc d ↦{fullShare} W r') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ (cLoc d ↦{fullShare} W main_arg2) ∗ (tvLoc d ↦{fullShare} W main_v0)
          ∗ (ytLoc d ↦{fullShare} W main_v1) ∗ (ypLoc d ↦{fullShare} W main_v2) ∗ (outLoc d ↦{fullShare} W main_v3)
          ∗ ((SparseCore.T d).loc main_v4 ↦{fullShare} W main_v4) ∗ rLoc d ↦{fullShare} W main_v5) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation, and those after each of the three operations before the call. -/
def V0 (d : Dev nD) : Valuation τ sig (Elt F) := fun b => m (d, b)
def V1 (d : Dev nD) : Valuation τ sig (Elt F) := (opTv (F := F)).result (V0 m d)
def V2 (d : Dev nD) : Valuation τ sig (Elt F) := (opYt (F := F)).result (V1 m d)
def V3 (d : Dev nD) : Valuation τ sig (Elt F) := (opYp (F := F)).result (V2 m d)

theorem unscoped_held (d : Dev nD) : (unscopedBufs d (fun b => m ((SparseCore.T d).loc b)) : sProp 𝕄) = held (T d) S9 (V0 m d) := by
  rw [unscopedBufs_eq, held_S9]; rfl

/-- The three operations change nothing but what they write. -/
theorem V3_keeps (d : Dev nD) (b : DevRef τ sig) (h0 : b ∉ ({tv'} : Finset (DevRef τ sig))) (h1 : b ∉ ({yt'} : Finset (DevRef τ sig)))
    (h2 : b ∉ ({yp'} : Finset (DevRef τ sig))) : V3 m d b = V0 m d b := by
  unfold V3 V2 V1
  rw [(opYp (F := F)).result_of_not_mem _ h2, (opYt (F := F)).result_of_not_mem _ h1, (opTv (F := F)).result_of_not_mem _ h0]

theorem V3_a (d : Dev nD) : V3 m d a' = m (aLoc d) := V3_keeps m d a' (by decide) (by decide) (by decide)
theorem V3_b (d : Dev nD) : V3 m d b' = m (bLoc d) := V3_keeps m d b' (by decide) (by decide) (by decide)
theorem V3_c (d : Dev nD) : V3 m d c' = m (cLoc d) := V3_keeps m d c' (by decide) (by decide) (by decide)
theorem V3_tv (d : Dev nD) : V3 m d tv' = TV m d := by
  unfold V3 V2 V1
  rw [(opYp (F := F)).result_of_not_mem _ (show tv' ∉ ({yp'} : Finset (DevRef τ sig)) by decide),
    (opYt (F := F)).result_of_not_mem _ (show tv' ∉ ({yt'} : Finset (DevRef τ sig)) by decide)]
  exact StableHlo.reshape_result _ _ _ _ _ _ _
theorem V3_yt (d : Dev nD) : V3 m d yt' = YT m d := by
  unfold V3 V2
  rw [(opYp (F := F)).result_of_not_mem _ (show yt' ∉ ({yp'} : Finset (DevRef τ sig)) by decide)]
  refine (StableHlo.unary_result _ _ _ _ _ _).trans ?_
  unfold V1
  rw [(opTv (F := F)).result_of_not_mem _ (show a' ∉ ({tv'} : Finset (DevRef τ sig)) by decide)]
  rfl
theorem V3_yp (d : Dev nD) : V3 m d yp' = YP m d := by
  unfold V3
  refine (StableHlo.unary_result _ _ _ _ _ _).trans ?_
  unfold V2 V1
  rw [(opYt (F := F)).result_of_not_mem _ (show b' ∉ ({yt'} : Finset (DevRef τ sig)) by decide),
    (opTv (F := F)).result_of_not_mem _ (show b' ∉ ({tv'} : Finset (DevRef τ sig)) by decide)]
  rfl

/-- The nine arrays before the call. -/
theorem held_V3 (d : Dev nD) :
    (held (T d) S9 ((opYp (F := F)).result (V2 m d)) : sProp 𝕄)
      = iprop((aLoc d ↦{fullShare} m (aLoc d)) ∗ (bLoc d ↦{fullShare} m (bLoc d)) ∗ (cLoc d ↦{fullShare} m (cLoc d)) ∗ (tvLoc d ↦{fullShare} TV m d)
          ∗ (ytLoc d ↦{fullShare} YT m d) ∗ (ypLoc d ↦{fullShare} YP m d) ∗ (outLoc d ↦{fullShare} V3 m d out')
          ∗ ((SparseCore.T d).loc main_v4 ↦{fullShare} V3 m d o1') ∗ rLoc d ↦{fullShare} V3 m d r') := by
  show held (SparseCore.T d) S9 (V3 m d) = _
  rw [held_S9, V3_a, V3_b, V3_c, V3_tv, V3_yt, V3_yp]

/-- After the call, the result's buffer at `g`. -/
def V4 (d : Dev nD) (g : Buf (Elt F) (outLoc d)) : Valuation τ sig (Elt F) := Function.update (V3 m d) out' g

theorem V4_out (d : Dev nD) (g : Buf (Elt F) (outLoc d)) : V4 m d g out' = g := Function.update_self _ _ _
theorem V4_keeps (d : Dev nD) (g : Buf (Elt F) (outLoc d)) (b : DevRef τ sig) (h : b ≠ out') : V4 m d g b = V3 m d b := Function.update_of_ne h _ _

theorem held_V4 (d : Dev nD) (g : Buf (Elt F) (outLoc d)) :
    (held (T d) S9 (V4 m d g) : sProp 𝕄)
      = iprop((aLoc d ↦{fullShare} m (aLoc d)) ∗ (bLoc d ↦{fullShare} m (bLoc d)) ∗ (cLoc d ↦{fullShare} m (cLoc d)) ∗ (tvLoc d ↦{fullShare} TV m d)
          ∗ (ytLoc d ↦{fullShare} YT m d) ∗ (ypLoc d ↦{fullShare} YP m d) ∗ (outLoc d ↦{fullShare} g)
          ∗ ((SparseCore.T d).loc main_v4 ↦{fullShare} V3 m d o1') ∗ rLoc d ↦{fullShare} V3 m d r') := by
  rw [held_S9, V4_out, V4_keeps m d g a' (by decide), V4_keeps m d g b' (by decide), V4_keeps m d g c' (by decide), V4_keeps m d g tv' (by decide),
    V4_keeps m d g yt' (by decide), V4_keeps m d g yp' (by decide), V4_keeps m d g o1' (by decide), V4_keeps m d g r' (by decide),
    V3_a, V3_b, V3_c, V3_tv, V3_yt, V3_yp]

/-- After the two operations that follow the call: the result, from a buffer whose first word is the computed one. -/
theorem V6_r (d : Dev nD) (g : Buf (Elt F) (outLoc d)) (hg : Done d (t d) (YT m d) (YP m d) g) :
    (opRes (F := F)).result ((opCut (F := F)).result (V4 m d g)) r' = Res m t d := by
  refine (StableHlo.reshape_result _ _ _ _ _ _ _).trans ?_
  funext i
  have hcut : (opCut (F := F)).result (V4 m d g) o1' = extractStridedSlice S1 ![0] (g : S8.Idx → Elt F .f32) slices_S8_S1_0 :=
    (StableHlo.unary_result _ _ _ _ _ _).trans (by rw [V4_out])
  show shapeCast S_ ((opCut (F := F)).result (V4 m d g) o1' : S1.Idx → Elt F .f32) shapeCasts_S1_S_ i = _
  rw [hcut]
  refine Eq.trans (congrArg (g : S8.Idx → Elt F .f32) ?_) (hg.trans (congrArg₂ k0_pay1 (YP_apply m d (t d)) (YT_apply m d (t d))))
  funext a
  refine Fin.ext ?_
  match a with
  | ⟨0, _⟩ =>
    show 0 + (Shape.reshapeEquiv shapeCasts_S1_S_ i 0).val = 0
    have := (Shape.reshapeEquiv shapeCasts_S1_S_ i (0 : Fin 1)).isLt
    have h1 : (Shape.reshapeEquiv shapeCasts_S1_S_ i (0 : Fin 1)).val < 1 := this
    omega

theorem V6_keeps (d : Dev nD) (g : Buf (Elt F) (outLoc d)) (b : DevRef τ sig) (h0 : b ∉ ({o1'} : Finset (DevRef τ sig))) (h1 : b ∉ ({r'} : Finset (DevRef τ sig)))
    (h2 : b ≠ out') : (opRes (F := F)).result ((opCut (F := F)).result (V4 m d g)) b = V3 m d b := by
  rw [(opRes (F := F)).result_of_not_mem _ h1, (opCut (F := F)).result_of_not_mem _ h0, V4_keeps m d g b h2]

theorem held_V6 (d : Dev nD) (g : Buf (Elt F) (outLoc d)) (hg : Done d (t d) (YT m d) (YP m d) g) :
    (held (T d) S9 ((opRes (F := F)).result ((opCut (F := F)).result (V4 m d g))) : sProp 𝕄)
      ⊢ iprop((aLoc d ↦{fullShare} m (aLoc d)) ∗ (bLoc d ↦{fullShare} m (bLoc d)) ∗ (cLoc d ↦{fullShare} m (cLoc d)) ∗ rLoc d ↦{fullShare} Res m t d) := by
  rw [held_S9, V6_r m t d g hg, V6_keeps m d g a' (by decide) (by decide) (by decide), V6_keeps m d g b' (by decide) (by decide) (by decide),
    V6_keeps m d g c' (by decide) (by decide) (by decide), V3_a, V3_b, V3_c]
  iintro ⟨Ha, Hb, Hc, -, -, -, -, -, Hr⟩
  isplitl [Ha]; · iexact Ha
  isplitl [Hb]; · iexact Hb
  isplitl [Hc]; · iexact Hc
  iexact Hr

theorem st0_eq (d : Dev nD) : (bigSep Finset.univ fun c : Fin ((K (F := F)).nCore 0) => (P m t).st 0 d c)
    = iprop(inPts m d ∗ ∃ g : Buf (Elt F) (outLoc d), outLoc d ↦{fullShare} g) :=
  bigSep_univ_of_subsingleton (0 : Fin 1)
theorem dn0_eq (d : Dev nD) : (bigSep Finset.univ fun c : Fin ((K (F := F)).nCore 0) => (P m t).dn 0 d c)
    = iprop(inPts m d ∗ ∃ g : Buf (Elt F) (outLoc d), ⌜Done d (t d) (YT m d) (YP m d) g⌝ ∗ outLoc d ↦{fullShare} g) :=
  bigSep_univ_of_subsingleton (0 : Fin 1)

theorem hTv : (opTv (F := F)).bufs ⊆ S9 := show ({c', tv'} : Finset (DevRef τ sig)) ⊆ S9 by decide
theorem hYt : (opYt (F := F)).bufs ⊆ S9 := show ({a', yt'} : Finset (DevRef τ sig)) ⊆ S9 by decide
theorem hYp : (opYp (F := F)).bufs ⊆ S9 := show ({b', yp'} : Finset (DevRef τ sig)) ⊆ S9 by decide
theorem hCut : (opCut (F := F)).bufs ⊆ S9 := show ({out', o1'} : Finset (DevRef τ sig)) ⊆ S9 by decide
theorem hRes : (opRes (F := F)).bufs ⊆ S9 := show ({o1', r'} : Finset (DevRef τ sig)) ⊆ S9 by decide

/-- What @main leaves the claims: the arguments at their launch contents, the result at the computed word. -/
abbrev FIN (d : Dev nD) : sProp 𝕄 :=
  iprop((aLoc d ↦{fullShare} m (aLoc d)) ∗ (bLoc d ↦{fullShare} m (bLoc d)) ∗ (cLoc d ↦{fullShare} m (cLoc d)) ∗ rLoc d ↦{fullShare} Res m t d)

/-- @main on device `d`'s TensorCore: three operations, the call, two operations. -/
theorem hmain (κ : GSem nD τ sig → ℕ) (d : Dev nD) :
    iprop((K (F := F)).ctx EH (P m t) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m t d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTv) (S := S9) hTv (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opYt) (S := S9) hYt (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opYp) (S := S9) hYp (V := V2 m d)) $$ [Hb Hheld]
  · isplitl [Hb]; · iexact Hb
    iexact Hheld
  iintro ⟨Hb, Hheld⟩
  rw [wp_ret]; imodintro
  ihave Hh := (Entails.of_eq (held_V3 (F := F) m d)) $$ Hheld
  icases Hh with ⟨HA, HB, HC, HI, HT, HP, HU, HM, HR⟩
  iapply ((K (F := F)).wp_run (D (F := F)) 𝒱 (EH := EH) (P := P m t) κ d 0) $$ [Hst HI HT HP HU Hb HA HB HC HM HR Hts]
  isplitr; · iexact Hctx
  isplitl [Hst]; · iexact Hst
  isplitl [HI HT HP HU]
  · rw [st0_eq]
    isplitl [HI HT HP]
    · isplitl [HT]; · iexact HT
      isplitl [HP]; · iexact HP
      iexact HI
    iexists _; iexact HU
  iintro ⟨Hst, Hdn⟩
  ihave Hdn' := (Entails.of_eq (dn0_eq m t d)) $$ Hdn
  icases Hdn' with ⟨⟨HT, HP, HI⟩, %g, %hg, HU⟩
  iapply (wp_hlo_within 𝒱 (SparseCore.T d) none Set.univ (op := opCut) (S := S9) hCut (V := V4 m d g)) $$ [Hb HA HB HC HI HT HP HU HM HR]
  · isplitl [Hb]; · iexact Hb
    rw [held_V4]
    isplitl [HA]; · iexact HA
    isplitl [HB]; · iexact HB
    isplitl [HC]; · iexact HC
    isplitl [HI]; · iexact HI
    isplitl [HT]; · iexact HT
    isplitl [HP]; · iexact HP
    isplitl [HU]; · iexact HU
    isplitl [HM]; · iexact HM
    iexact HR
  iintro ⟨Hb, Hheld⟩
  rw [wp_ret]; imodintro
  iapply (wp_hlo_within 𝒱 (SparseCore.T d) none Set.univ (op := opRes) (S := S9) hRes (V := (opCut (F := F)).result (V4 m d g))) $$ [Hb Hheld]
  · isplitl [Hb]; · iexact Hb
    iexact Hheld
  iintro ⟨Hb, Hheld⟩
  ihave Hh := (held_V6 (F := F) m t d g hg) $$ Hheld
  rw [wp_ret]; imodintro; imodintro
  isplitl [Hst]; · iexact Hst
  isplitr [Hb Hts]
  · iexact Hh
  isplitl [Hb] <;> iassumption

/-- What the claims read of device `d`'s final state. -/
def fq (d : Dev nD) (s' : Phys nD τ sig (Elt F)) : Prop :=
  s'.mem.mem (rLoc d) = Res m t d ∧ s'.mem.mem (aLoc d) = m (aLoc d) ∧ s'.mem.mem (bLoc d) = m (bLoc d) ∧ s'.mem.mem (cLoc d) = m (cLoc d)

theorem hfin (d : Dev nD) (s' : Phys nD τ sig (Elt F)) : iprop(FIN m t d ∗ SI s') ⊢ (⌜fq m t d s'⌝ : sProp 𝕄) := by
  iintro ⟨⟨Ha, Hb, Hc, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (SI_pointsTo_agree (st := s') (ℓ := rLoc d) (I := Finset.univ) (q := fullShare) (f := Res m t d)) $$ [HSI Hr]
  · isplitl [HSI] <;> iassumption
  icases H with %hr
  ipureintro
  exact ⟨funext fun i => hr i (Finset.mem_univ i), funext fun i => ha i (Finset.mem_univ i), funext fun i => hb i (Finset.mem_univ i),
    funext fun i => hc i (Finset.mem_univ i)⟩

/-! ## The program's run -/

/-- What holds at the end: on every device the result and the arguments as said, and every semaphore at zero. -/
def QC : PUnit × MemSt nD τ sig (Elt F) → Prop := fun r =>
  (∀ d : Dev nD, r.2.mem (rLoc d) = Res m t d ∧ r.2.mem (aLoc d) = m (aLoc d) ∧ r.2.mem (bLoc d) = m (bLoc d) ∧ r.2.mem (cLoc d) = m (cLoc d)) ∧ r.2.sem = fun _ => 0

/-- The program from any memory whose target, on each device, is the row number `t d`: it terminates without a fault and
    ends as `QC` says. -/
theorem run_main [∀ e, Nonempty (Elt F e)] (ht : ∀ d i, BitVec.toNat (m (cLoc d) i) = (t d).val) :
    θ_run (Cert.KernelIdeal.defs (F := F)) (Cert.KernelIdeal.threads (F := F)) ⟨m, fun _ => 0, ρ⟩ (QC m t) :=
  SparseCore.Cfg.θ_run_sc_quiescent (K := K (F := F)) (D := D (F := F)) (𝒱 := 𝒱) (EH := EH) (P := P m t) (A := ∅) facts v₀
    (fun q _ => match q with | 0 => scalarObl m t fun d _ => ht d _)
    (fun q hq => match q with | 0 => nomatch hq)
    (fun q hq => match q with | 0 => nomatch hq)
    m ρ main (fun _ => iprop(emp)) (FIN m t) (u₀ (F := F)) (sep_elim_left.trans (hu₀ m t)) (hmain m ρ t) (fq m t) (hfin m t) (QC m t) (fun _ h hz => ⟨h, hz⟩)

end Cert.Proof.Row

end
-- ==== Proof.RefValue.lean ====
/-
  The reference's mathematics at the extended reals: its one-hot mask is one at row 0 and the target's column and zero
  elsewhere, so of its sum of squared masked differences one term is left, the square the kernel computes.
-/
module

public import proofs.«01_k».proof.Proof.Run
public import proofs.«01_k».proof.Proof.Gen.ReferenceIdeal
public import proofs.«01_k».proof.Proof.Gen.Pre_target_in_range
public import Idealize.ShloMosaic.Lib.IdealHost
public import Idealize.ShloMosaic.Lib.Routing.OpsOne
public import Idealize.ShloMosaic.Lib.Pipeline.Value

@[expose] public section

noncomputable section

namespace Cert.Proof.Ref

open Idealize.ShloMosaic
open Idealize.ShloMosaic.ValueIdx (ix0 ix1 ix2 eq_ix2 broadcastInDim_scalar_apply)
open Cert.ReferenceIdeal Cert.ReferenceIdeal.Gen

/-! ## The precondition, read as a bound on the target -/

/-- A word that is at least 0 and less than 100000 read signed is less than 100000 read unsigned. -/
theorem toNat_lt_of_range (w : BitVec 32) (h0 : (0#32).sle w = true) (h1 : w.slt 100000#32 = true) : w.toNat < 100000 := by
  have h0' : (0#32 : BitVec 32).toInt ≤ w.toInt := of_decide_eq_true h0
  have h1' : w.toInt < (100000#32 : BitVec 32).toInt := of_decide_eq_true h1
  rw [show (0#32 : BitVec 32).toInt = 0 from rfl] at h0'
  rw [show (100000#32 : BitVec 32).toInt = 100000 from rfl] at h1'
  rw [BitVec.toInt_eq_toNat_cond] at h0' h1'
  split at h0' <;> omega

/-- The precondition says that the target is a column of the arrays, at any float instance. -/
theorem target_lt {F : FTy → Type} [FloatOps F] (a b : FVec F S128x100000 .f32) (w : IVec S_ 32)
    (h : Cert.Pre_target_in_range.fn (F := F) a b w = fun _ => 1#1) (i : S_.Idx) : (w i).toNat < 100000 := by
  have h' : BitVec.ofBool ((0#32).sle (w i)) &&& BitVec.ofBool ((w i).slt 100000#32) = 1#1 := congrFun h i
  refine toNat_lt_of_range (w i) ?_ ?_
  · generalize (0#32).sle (w i) = p at h'
    generalize (w i).slt 100000#32 = q at h'
    revert h'; revert p q; decide
  · generalize (0#32).sle (w i) = p at h'
    generalize (w i).slt 100000#32 = q at h'
    revert h'; revert p q; decide

/-! ## The reference's composed term -/

/-- The pair of index words the mask is set at: row 0 and the target, a negative target counted from the end. -/
abbrev pair (w : IVec S_ 32) : IVec S2 32 :=
  concatenate S2 0 [⟨S1, (broadcastInDim S1 ![] bcast_S_S1 (constantI S_ 32 0#32))⟩,
    ⟨S1, (broadcastInDim S1 ![] bcast_S_S1 (select (cmpi .slt w (constantI S_ 32 0#32)) (addi w (constantI S_ 32 100000#32)) w))⟩] concatenates_S1_S1_S2_d0

/-- The one-hot mask the reference scatters. -/
abbrev mask {F : FTy → Type} [FloatOps F] (w : IVec S_ 32) : FVec F S128x100000 .f32 :=
  Host.scatter scatter_S128x100000_S2_S__n_01_01_0 (fun _ b => b) (broadcastInDim S128x100000 ![] bcast_S_S128x100000 (constant S_ .f32 0x00000000#32)) (pair w) (constant S_ .f32 0x3F800000#32)

/-- The reference's result: the negated sum of the squares of the masked differences. -/
abbrev out {F : FTy → Type} [FloatOps F] (a b : FVec F S128x100000 .f32) (w : IVec S_ 32) : FVec F S_ .f32 :=
  Host.negf (Host.reduceAdd (mulf (mulf (subf b a) (mask w)) (mulf (subf b a) (mask w))) (constant S_ .f32 0x00000000#32) reducesTo_S128x100000_S_d0_1 h_S_)

/-- The first index word is row 0. -/
theorem pair_row (w : IVec S_ 32) : (pair w (ix1 (0 : Fin 2))).toInt = 0 :=
  congrArg BitVec.toInt (concatenate_pair_apply_left (t := S2) 0 (s₁ := S1) (s₂ := S1) _ _ concatenates_S1_S1_S2_d0 _ rfl (ix1 (0 : Fin 1))
    (fun b => match b with | ⟨0, _⟩ => rfl))

/-- The second is the target, which in range is not negative and so is not wrapped. -/
theorem pair_col (w : IVec S_ 32) (t : Fin 100000) (hw : ∀ i, (w i).toNat = t.val) : (pair w (ix1 (1 : Fin 2))).toInt = t.val := by
  have hint : ∀ i, (w i).toInt = t.val := fun i => by
    have := hw i
    have := t.isLt
    rw [BitVec.toInt_eq_toNat_cond]
    split <;> omega
  refine (congrArg BitVec.toInt (concatenate_pair_apply_right (t := S2) 0 (s₁ := S1) (s₂ := S1) _ _ concatenates_S1_S1_S2_d0 _ rfl rfl (ix1 (0 : Fin 1))
    (fun b hb => absurd (Subsingleton.elim (α := Fin 1) _ _) hb) rfl)).trans ?_
  rw [broadcastInDim_scalar_apply]
  show (if BitVec.ofBool ((w _).slt 0#32) = 1 then w _ + 100000#32 else w _).toInt = _
  rw [if_neg, hint]
  rw [show (w ix0).slt 0#32 = false from decide_eq_false (by
    rw [hint, show (0#32 : BitVec 32).toInt = 0 from rfl]; omega)]
  decide

/-- The mask read at an element: one at row 0 and the target's column, zero elsewhere. -/
theorem mask_apply (w : IVec S_ 32) (t : Fin 100000) (hw : ∀ i, (w i).toNat = t.val) (r : Fin 128) (c : Fin 100000) :
    mask (F := Ideal) w (ix2 r c) = if r = 0 ∧ c = t then (1 : EReal) else (0 : EReal) := by
  refine (Routing.scatter_cell_signed scatter_S128x100000_S2_S__n_01_01_0 rfl rfl rfl _ _ _ r c).trans ?_
  rw [pair_row, pair_col w t hw, broadcastInDim_scalar_apply]
  by_cases h : r = 0 ∧ c = t
  · rw [if_pos h, if_pos ⟨by rw [h.1]; rfl, by rw [h.2]⟩]
    exact Ideal.ofBits_one_f32
  · rw [if_neg h, if_neg fun q => h ⟨Fin.ext (by have := q.1; show r.val = 0; omega), Fin.ext (by have := q.2; omega)⟩]
    exact Ideal.ofBits_zero_f32

/-- The reference's result at the extended reals is what the kernel's body computes from the two arrays at row 0 and the
    target's column: every other term of the sum is a square of zero. No finiteness is needed, zero times an infinity
    being zero. -/
theorem out_eq (a b : FVec Ideal S128x100000 .f32) (w : IVec S_ 32) (t : Fin 100000) (hw : ∀ i, (w i).toNat = t.val) (j : S_.Idx) :
    out a b w j = Cert.KernelIdeal.Gen.k0_pay1 (F := Ideal) (b (ix2 (0 : Fin 128) t)) (a (ix2 (0 : Fin 128) t)) := by
  have hin : ∀ i : S128x100000.Idx, i ≠ ix2 (0 : Fin 128) t → mask (F := Ideal) w i = (0 : EReal) := fun i hi => by
    refine (congrArg (mask (F := Ideal) w) (eq_ix2 i)).trans ((mask_apply w t hw (i 0) (i 1)).trans (if_neg fun q => hi ?_))
    exact (eq_ix2 i).trans (congrArg₂ ix2 q.1 q.2)
  have hat : mask (F := Ideal) w (ix2 (0 : Fin 128) t) = (1 : EReal) := by rw [mask_apply w t hw, if_pos ⟨rfl, rfl⟩]
  show -(Ideal.hostReduceAdd reducesTo_S128x100000_S_d0_1
      (fun i => ((b i - a i) * mask (F := Ideal) w i) * ((b i - a i) * mask (F := Ideal) w i) : S128x100000.Idx → EReal) (Ideal.ofBits .f32 0x00000000#32) j)
    = Ideal.ofBits .f32 0x00000000#32 - (b (ix2 (0 : Fin 128) t) - a (ix2 (0 : Fin 128) t) : EReal) * (b (ix2 (0 : Fin 128) t) - a (ix2 (0 : Fin 128) t) : EReal)
  rw [Ideal.hostReduceAdd_total _ (fun k => k.elim0), Ideal.ofBits_zero_f32,
    Finset.sum_eq_single (ix2 (0 : Fin 128) t) (fun i _ hi => by rw [hin i hi, mul_zero, mul_zero]) (fun h => absurd (Finset.mem_univ _) h),
    hat, mul_one, zero_add, zero_sub]

end Cert.Proof.Ref

end
-- ==== Proof.lean ====
/-
  The certificate's claims. The kernel's run (Proof/Run.lean) is proved once, at any float instance: the frame of the
  kernel is that run at the bit patterns, the frame of its idealization and the value claim are that run at the extended
  reals. The reference's run is the library's for a list of host operations; its value is Proof/RefValue.lean's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_target_in_range
public import proofs.«01_k».proof.Proof.Body
public import proofs.«01_k».proof.Proof.Run
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-! ## The frames -/

/-- `Kernel` runs, leaves its arguments alone and ends with every semaphore at zero, for a target that is a column: the
    run at the bit patterns, the target's column read off the precondition. -/
theorem frame_kernel : Cert.quiescent_Kernel := fun m ρ hpre =>
  (θ_run Cert.KernelIdeal.defs _ _).mono (fun _ h => ⟨fun c => (h.1 c).2, h.2⟩)
    (Row.run_main (F := Bits) m ρ (fun d => ⟨_, Ref.target_lt _ _ _ (hpre d) ValueIdx.ix0⟩)
      (fun d i => congrArg (fun k => BitVec.toNat (m (Row.cLoc d) k)) (ValueIdx.eq_ix0 i)))

/-- The idealization's frame: the same run at the extended reals. -/
theorem frame_kernelIdeal : Cert.quiescent_KernelIdeal := fun m ρ hpre =>
  (θ_run Cert.KernelIdeal.defs _ _).mono (fun _ h => ⟨fun c => (h.1 c).2, h.2⟩)
    (Row.run_main (F := Ideal) m ρ (fun d => ⟨_, Ref.target_lt _ _ _ (hpre d) ValueIdx.ix0⟩)
      (fun d i => congrArg (fun k => BitVec.toNat (m (Row.cLoc d) k)) (ValueIdx.eq_ix0 i)))

/-- The reference's frame, from any memory: it is host operations only and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame under the precondition is the one without. -/
theorem frame_reference_pre : Cert.quiescent_ReferenceIdeal_pre_target_in_range := fun m ρ _ => frame_reference m ρ trivial

/-! ## The value claim -/

/-- At the extended reals, for a target that is a column, kernel and reference end with the same result: the negated
    square of the difference of the two arrays at row 0 and the target's column. -/
theorem value : Cert.algebraic_KernelIdeal_ReferenceIdeal := by
  intro m ρ m' ρ' hpre hargs
  let t : Dev Cert.KernelIdeal.nD → Fin 100000 := fun d => ⟨_, Ref.target_lt _ _ _ (hpre d) ValueIdx.ix0⟩
  have ht : ∀ d i, BitVec.toNat (m (Row.cLoc d) i) = (t d).val := fun d i =>
    congrArg (fun k => BitVec.toNat (m (Row.cLoc d) k)) (ValueIdx.eq_ix0 i)
  refine ⟨fun c => Row.Res m t c, (θ_run Cert.KernelIdeal.defs _ _).mono (fun _ h => h.1) (Row.run_main (F := Ideal) m ρ t ht),
    (θ_run Cert.ReferenceIdeal.defs _ _).mono (fun r h c => ⟨(h c).1.trans ?_, (h c).2⟩) (Cert.ReferenceIdeal.Value.run (F := Ideal) m' ρ')⟩
  rw [(hargs c).1, (hargs c).2.1, (hargs c).2.2]
  exact funext fun j => Ref.out_eq _ _ _ (t c) (ht c) j

theorem claim : Cert.Claim := ⟨Cert.Kernel.Gen.facts, Cert.KernelIdeal.Gen.facts, Cert.ReferenceIdeal.Gen.facts, Cert.Pre_target_in_range.Gen.facts,
  frame_kernel, frame_kernelIdeal, frame_reference, frame_reference_pre, trivial, value⟩

end Cert.Proof

end
